-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x64 : Shape := ⟨2, ![4096, 64]⟩
abbrev S512x64 : Shape := ⟨2, ![512, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S4096x64 .f32) (main_arg1 : FVec F S512x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S4096x64 : Shape := ⟨2, ![4096, 64]⟩
abbrev S512x64 : Shape := ⟨2, ![512, 64]⟩
abbrev S1x4096 : Shape := ⟨2, ![1, 4096]⟩
abbrev S2048x64 : Shape := ⟨2, ![2048, 64]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S4096 : Shape := ⟨1, ![4096]⟩

abbrev nBuf : Space → Nat
  | .hbm => 4
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S512x64, .f32⟩
  | .hbm, ⟨2, _⟩ => ⟨S1x4096, .i32⟩
  | .hbm, ⟨3, _⟩ => ⟨S4096, .i32⟩
  | .local _ .vmem, ⟨0, _⟩ => ⟨S512x64, .f32⟩
  | .local _ .vmem, ⟨1, _⟩ => ⟨S2048x64, .f32⟩
  | .local _ .vmem, ⟨2, _⟩ => ⟨S2048x64, .f32⟩
  | .local _ .vmem, ⟨3, _⟩ => ⟨S1x2048, .i32⟩
  | .local _ .vmem, ⟨4, _⟩ => ⟨S1x2048, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x64 : Shape := ⟨2, ![4096, 64]⟩
abbrev S512x64 : Shape := ⟨2, ![512, 64]⟩
abbrev S4096x1x64 : Shape := ⟨3, ![4096, 1, 64]⟩
abbrev S1x512x64 : Shape := ⟨3, ![1, 512, 64]⟩
abbrev S4096x512x64 : Shape := ⟨3, ![4096, 512, 64]⟩
abbrev S_ : Shape := ⟨0, ![]⟩
abbrev S4096x512 : Shape := ⟨2, ![4096, 512]⟩
abbrev S4096 : Shape := ⟨1, ![4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S512x64, .f32⟩
  | .hbm, ⟨2, _⟩ => ⟨S4096x1x64, .f32⟩
  | .hbm, ⟨3, _⟩ => ⟨S1x512x64, .f32⟩
  | .hbm, ⟨4, _⟩ => ⟨S4096x512x64, .f32⟩
  | .hbm, ⟨5, _⟩ => ⟨S4096x512x64, .f32⟩
  | .hbm, ⟨6, _⟩ => ⟨S4096x512x64, .f32⟩
  | .hbm, ⟨7, _⟩ => ⟨S4096x512x64, .f32⟩
  | .hbm, ⟨8, _⟩ => ⟨S_, .f32⟩
  | .hbm, ⟨9, _⟩ => ⟨S4096x512, .f32⟩
  | .hbm, ⟨10, _⟩ => ⟨S4096x512, .i32⟩
  | .hbm, ⟨11, _⟩ => ⟨S_, .f32⟩
  | .hbm, ⟨12, _⟩ => ⟨S_, .i32⟩
  | .hbm, ⟨13, _⟩ => ⟨S4096, .f32⟩
  | .hbm, ⟨14, _⟩ => ⟨S4096, .i32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.FirstMin.lean ====
/-
  The first position of a least value, found three ways: by its definition, by a search that keeps one pair
  (value, position), and by taking the least value first and the least position holding it second.
-/
module

public import Idealize.ShloMosaic.Lib.WordArith
public import Idealize.ShloMosaic.PureOps.Reduce
public import Mathlib.Data.EReal.Basic
public import Mathlib.Data.Prod.Lex
public import Mathlib.Data.Finset.Fold
public import Mathlib.Data.Finset.Lattice.Fold

@[expose] public section

namespace Cert.Proof

open Idealize.ShloMosaic

/-- Position `a` is the first at which `f` takes its least value: every other value is greater, or equal and later. -/
def IsFirstMin {n : ℕ} (f : Fin n → EReal) (a : Fin n) : Prop := ∀ k, f a < f k ∨ (f a = f k ∧ a ≤ k)

/-- A nonempty finite row has a first position of its least value. -/
theorem exists_isFirstMin {n : ℕ} (hn : 0 < n) (f : Fin n → EReal) : ∃ a, IsFirstMin f a := by
  obtain ⟨a, -, ha⟩ := Finset.exists_min_image Finset.univ (fun k => toLex (f k, k)) ⟨⟨0, hn⟩, Finset.mem_univ _⟩
  exact ⟨a, fun k => Prod.Lex.toLex_le_toLex.1 (ha k (Finset.mem_univ k))⟩

/-- No value of the row is below its value at the first position of the least. -/
theorem IsFirstMin.le {n : ℕ} {f : Fin n → EReal} {a : Fin n} (h : IsFirstMin f a) (k : Fin n) : f a ≤ f k :=
  (h k).elim le_of_lt fun e => e.1.le

/-- The first position of the least value is unchanged when a fixed real number is added to every value of a row of
    real numbers. -/
theorem IsFirstMin.shift {n : ℕ} {f : Fin n → ℝ} {a : Fin n} (h : IsFirstMin (fun k => (f k : EReal)) a) (x : ℝ) :
    IsFirstMin (fun k => ((x + f k : ℝ) : EReal)) a := fun k => by
  have := h k
  simp only [EReal.coe_lt_coe_iff, EReal.coe_eq_coe_iff, add_lt_add_iff_left, add_right_inj] at this ⊢
  exact this

/-- The fold of `min` over a row, from `⊤`, is the row's value at the first position of the least. -/
theorem IsFirstMin.fold_min {n : ℕ} {f : Fin n → EReal} {a : Fin n} (h : IsFirstMin f a) :
    (Finset.univ : Finset (Fin n)).fold min ⊤ f = f a :=
  le_antisymm ((Finset.fold_min_le _).2 (.inr ⟨a, Finset.mem_univ a, le_rfl⟩))
    ((Finset.le_fold_min _).2 ⟨le_top, fun k _ => h.le k⟩)

/-- The fold of the signed `min` of words below `2³¹` is, as a natural number, the fold of `min`; and it stays below
    `2³¹`. -/
theorem toNat_fold_minsi {ι : Type} [DecidableEq ι] (S : Finset ι) (b : BitVec 32) (f : ι → BitVec 32)
    [Std.Commutative (IntOp.minsi (w := 32))] [Std.Associative (IntOp.minsi (w := 32))]
    (hb : b.toNat < 2 ^ 31) (hf : ∀ i, (f i).toNat < 2 ^ 31) :
    (S.fold IntOp.minsi b f).toNat = S.fold min b.toNat (fun i => (f i).toNat)
      ∧ (S.fold IntOp.minsi b f).toNat < 2 ^ 31 := by
  induction S using Finset.induction_on with
  | empty => exact ⟨rfl, hb⟩
  | insert i S hi ih =>
    rw [Finset.fold_insert hi, Finset.fold_insert hi, WordArith.toNat_minsi_of_lt _ _ (hf i) ih.2, ih.1]
    exact ⟨rfl, lt_of_le_of_lt (min_le_left _ _) (hf i)⟩

/-- Among the positions at which a row equals its least value the least is the first of them: each position holding the
    value offers itself, each other offers the row's length, and the signed `min` of the offers, from any start that is
    not below every position, is the first position of the least value. -/
theorem IsFirstMin.fold_minsi {n : ℕ} {f : Fin n → EReal} {a : Fin n} (h : IsFirstMin f a) (hn : n < 2 ^ 31)
    [Std.Commutative (IntOp.minsi (w := 32))] [Std.Associative (IntOp.minsi (w := 32))]
    (b : BitVec 32) (hb : b.toNat < 2 ^ 31) (hnb : n ≤ b.toNat) (g : Fin n → BitVec 32)
    (hg : ∀ k, g k = if f k = f a then BitVec.ofNat 32 k.val else BitVec.ofNat 32 n) :
    (Finset.univ : Finset (Fin n)).fold IntOp.minsi b g = BitVec.ofNat 32 a.val := by
  have hv : ∀ k, (g k).toNat = if f k = f a then k.val else n := fun k => by
    rw [hg k]; have := k.isLt
    split <;> rw [BitVec.toNat_ofNat, Nat.mod_eq_of_lt (by omega)]
  have ha := a.isLt
  apply BitVec.eq_of_toNat_eq
  rw [(toNat_fold_minsi _ b g hb fun k => by have := k.isLt; rw [hv k]; split <;> omega).1,
    BitVec.toNat_ofNat, Nat.mod_eq_of_lt (by omega)]
  refine le_antisymm ((Finset.fold_min_le _).2 (.inr ⟨a, Finset.mem_univ a, ?_⟩))
    ((Finset.le_fold_min _).2 ⟨by omega, fun k _ => ?_⟩)
  · show (g a).toNat ≤ a.val
    rw [hv a, if_pos rfl]
  · show a.val ≤ (g k).toNat
    rw [hv k]
    split
    · rename_i e
      exact (h k).elim (fun l => absurd e.symm l.ne) fun l => l.2
    · omega

/-- A search that keeps one of the two things it compares, over a list holding `p`, ends at `p` when `p` is kept against
    everything in the list, on either side, and replaces the start. -/
theorem foldl_keep {α : Type} (step : α → α → α) (hstep : ∀ p q, step p q = p ∨ step p q = q) (p : α) :
    ∀ (L : List α) (s : α), (∀ q ∈ L, step p q = p) → (∀ q ∈ L, step q p = p) → step s p = p → p ∈ L ∨ s = p →
      L.foldl step s = p
  | [], s, _, _, _, hm => hm.elim (fun h => nomatch h) id
  | q :: L, s, h1, h2, hs, hm => by
    refine foldl_keep step hstep p L (step s q) (fun r hr => h1 r (List.mem_cons_of_mem _ hr))
      (fun r hr => h2 r (List.mem_cons_of_mem _ hr)) ?_ ?_
    · rcases hstep s q with e | e <;> rw [e]
      exacts [hs, h2 q (List.mem_cons_self ..)]
    · rcases hm with hm | rfl
      · rcases List.mem_cons.1 hm with rfl | hm
        exacts [.inr hs, .inl hm]
      · exact .inr (h1 q (List.mem_cons_self ..))

end Cert.Proof
-- ==== Proof.Distance.lean ====
/-
  The squared distance of a point to a center, expanded: over the real numbers `Σ (x - c)²` is `Σ x²`, which is the same
  for every center, plus `Σ c² - 2 Σ c x`.
-/
module

public import Mathlib.Data.EReal.Operations
public import Mathlib.Algebra.BigOperators.Fin
public import Mathlib.Algebra.BigOperators.Ring.Finset
public import Mathlib.Tactic.Ring

@[expose] public section

namespace Cert.Proof

open scoped BigOperators

/-- A finite sum of real numbers is the same taken among the extended reals. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The score of a center `c` for a point `x`: `Σ c² - 2 Σ c x`. -/
def score {n : ℕ} (x c : Fin n → ℝ) : ℝ := ∑ k, c k * c k - 2 * ∑ k, c k * x k

/-- The score, with its operations taken among the extended reals. -/
theorem coe_score {n : ℕ} (x c : Fin n → ℝ) :
    (∑ k, (c k : EReal) * (c k : EReal)) - ((2 : ℝ) : EReal) * ∑ k, (c k : EReal) * (x k : EReal) = (score x c : EReal) := by
  simp only [score, EReal.coe_sub, EReal.coe_mul, coe_sum]

/-- The squared distance of `x` and `c`, with its operations taken among the extended reals, is the squared length of
    `x` plus the score of `c`. -/
theorem coe_distance {n : ℕ} (x c : Fin n → ℝ) :
    ∑ k, ((x k : EReal) - (c k : EReal)) * ((x k : EReal) - (c k : EReal))
      = ((∑ k, x k * x k + score x c : ℝ) : EReal) := by
  have e : ∑ k, x k * x k + score x c = ∑ k, (x k - c k) * (x k - c k) := by
    rw [score, Finset.mul_sum, ← Finset.sum_sub_distrib, ← Finset.sum_add_distrib]
    exact Finset.sum_congr rfl fun k _ => by ring
  rw [e, coe_sum]
  exact Finset.sum_congr rfl fun k _ => by rw [EReal.coe_mul, EReal.coe_sub]

end Cert.Proof
-- ==== Proof.Answer.lean ====
/-
  The answer both programs give: for each point, the number of the first center whose score for it is least.
-/
module

public import proofs.«01_k».proof.Proof.FirstMin
public import proofs.«01_k».proof.Proof.Distance
public import Idealize.ShloMosaic.Lib.ValueIdx

@[expose] public section

noncomputable section

namespace Cert.Proof

open Idealize.ShloMosaic Idealize.ShloMosaic.ValueIdx

/-- The first of the centers `c` whose score for the point `x` is least. -/
def nearest (x : Fin 64 → ℝ) (c : Fin 512 → Fin 64 → ℝ) : Fin 512 :=
  (exists_isFirstMin (by decide) fun k => (score x (c k) : EReal)).choose

/-- `nearest` is the first center whose score is least. -/
theorem nearest_spec (x : Fin 64 → ℝ) (c : Fin 512 → Fin 64 → ℝ) :
    IsFirstMin (fun k => (score x (c k) : EReal)) (nearest x c) :=
  (exists_isFirstMin (by decide) fun k => (score x (c k) : EReal)).choose_spec

/-- The rows of an array of extended reals, as rows of real numbers. -/
def realRows {n : ℕ} (A : (⟨2, ![n, 64]⟩ : Shape).Idx → EReal) : Fin n → Fin 64 → ℝ := fun p d => (A (ix2 p d)).toReal

end Cert.Proof

end
-- ==== Proof.Constants.lean ====
/-
  The two constants of the programs that are neither zero nor whole-number words, as extended reals.
-/
module

public import Idealize.ShloMosaic.PureOps.Ideal.Laws
public import Mathlib.Tactic.NormNum

@[expose] public section

namespace Cert.Proof

open Idealize.ShloMosaic

/-- The pattern `0x40000000` is the number two. -/
theorem two_f32 : Ideal.ofBits .f32 0x40000000#32 = ((2 : ℝ) : EReal) := by
  show Ideal.ieee 8 23 0x40000000#32 = _
  unfold Ideal.ieee
  simp (decide := true)
  rw [← EReal.coe_mul]
  norm_num

/-- The pattern `0x7F800000` is `⊤`. -/
theorem top_f32 : Ideal.ofBits .f32 0x7F800000#32 = (⊤ : EReal) := by
  show Ideal.ieee 8 23 0x7F800000#32 = _
  unfold Ideal.ieee
  simp (decide := true)

end Cert.Proof
-- ==== Proof.Block.lean ====
/-
  What one block of the kernel stores: for each of its points, the first of the centers whose score for the point is
  least, the score of a center `c` for a point `x` being `Σ c² - 2 Σ c x`.
-/
module

public import proofs.«01_k».proof.Proof.Constants
public import proofs.«01_k».proof.Proof.FirstMin
public import proofs.«01_k».proof.Proof.Distance
public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.Lib.StableHlo.Predicate

@[expose] public section

noncomputable section

namespace Cert.Proof

open Idealize.ShloMosaic Idealize.ShloMosaic.ValueIdx Cert.KernelIdeal Cert.KernelIdeal.Facts₀
open scoped BigOperators

variable [Facts₀]

/-- The scores a block computes, center by point, from the array of centers and the block of points. -/
def blockScores (C : FVec Ideal S512x64 .f32) (X : FVec Ideal S2048x64 .f32) : FVec Ideal S512x2048 .f32 :=
  subf (broadcastTo S512x2048
      (shapeCast S512x1 (multiReduction .add [1] S512 (mulf C C) 0x00000000#32 reduces_S512x64_S512 (.inl rfl) rfl)
        shapeCasts_S512_S512x1) broadcasts_S512x1_S512x2048)
    (mulf (broadcast S512x2048 (Scalar.ofBits .f32 0x40000000#32))
      (matmul dot_S512x64_S2048x64_S512x2048_1_1_0_0_n_n (some .fp32) C X (constant S512x2048 .f32 0x00000000#32)))

/-- The score of center `k` for point `p` of a block. -/
theorem blockScores_apply (C : FVec Ideal S512x64 .f32) (X : FVec Ideal S2048x64 .f32) (k : Fin 512) (p : Fin 2048) :
    blockScores C X (ix2 k p)
      = (∑ d : Fin 64, C (ix2 k d) * C (ix2 k d)) - ((2 : ℝ) : EReal) * ∑ d : Fin 64, C (ix2 k d) * X (ix2 p d) := by
  unfold blockScores
  rw [subf_apply, mulf_apply, broadcast_apply]
  congr 1
  · rw [broadcastTo_apply _ _ _ (ix2 k (0 : Fin 1)) (fun a => by match a with | ⟨0, _⟩ => rfl | ⟨1, _⟩ => rfl),
      shapeCast_apply _ _ _ (ix1 k) (by rw [Shape.rowMajor_val_one, Shape.rowMajor_val_two]; simp)]
    refine (Ideal.multiReduction_add_single _ _ _ _ _ _).trans (Finset.sum_congr rfl fun d _ => ?_)
    rw [mulf_apply]
    congr 2 <;> funext a <;> match a with | ⟨0, _⟩ => rfl | ⟨1, _⟩ => rfl
  · congr 1
    · exact two_f32
    · have e : dot_S512x64_S2048x64_S512x2048_1_1_0_0_n_n = DotDims.transposedRhs 512 64 2048 := rfl
      rw [e]
      refine (Ideal.matmul_transposedRhs_apply _ C X _ k p).trans ?_
      rw [constant_apply, Ideal.ofBits_zero_f32, zero_add]

/-- Where the centers and the block's points are real numbers, the score a block computes is the score. -/
theorem blockScores_coe (C : FVec Ideal S512x64 .f32) (X : FVec Ideal S2048x64 .f32) (c : Fin 512 → Fin 64 → ℝ)
    (x : Fin 2048 → Fin 64 → ℝ) (hC : ∀ k d, C (ix2 k d) = (c k d : EReal)) (hX : ∀ p d, X (ix2 p d) = (x p d : EReal))
    (k : Fin 512) (p : Fin 2048) : blockScores C X (ix2 k p) = (score (x p) (c k) : EReal) := by
  rw [blockScores_apply, ← coe_score]
  simp only [hC, hX]

/-- The least score of a block's point, over the centers. -/
def blockLeast (C : FVec Ideal S512x64 .f32) (X : FVec Ideal S2048x64 .f32) : FVec Ideal S2048 .f32 :=
  multiReduction .minimumf [0] S2048 (blockScores C X) 0x7F800000#32 reduces_S512x2048_S2048 (.inl rfl) rfl

/-- The least score of point `p` is its score at the first center where it is least. -/
theorem blockLeast_apply (C : FVec Ideal S512x64 .f32) (X : FVec Ideal S2048x64 .f32) (p : Fin 2048) (a : Fin 512)
    (ha : IsFirstMin (fun k => blockScores C X (ix2 k p)) a) : blockLeast C X (ix1 p) = blockScores C X (ix2 a p) := by
  unfold blockLeast
  haveI : Std.Commutative (FloatOps.minimumf (F := Ideal) (φ := .f32)) := ⟨fun u v => min_comm (α := EReal) u v⟩
  haveI : Std.Associative (FloatOps.minimumf (F := Ideal) (φ := .f32)) := ⟨fun u v w => min_assoc (α := EReal) u v w⟩
  refine (multiReduction_minimumf_eq_fold _ _ _ _ _ _).trans ?_
  rw [Shape.Reduces.fold_filter_drop_single]
  have e : (blockScores C X ∘ reduces_S512x2048_S2048.lift (ix1 p)) = fun k : Fin 512 => blockScores C X (ix2 k p) := by
    funext k
    refine congrArg (blockScores C X) (funext fun a => ?_)
    match a with | ⟨0, _⟩ => rfl | ⟨1, _⟩ => rfl
  rw [e]
  refine Eq.trans ?_ ha.fold_min
  rw [← top_f32]
  rfl

/-- What a center offers as the answer for a point: its own number where its score is the point's least, `512` elsewhere. -/
def blockOffers (C : FVec Ideal S512x64 .f32) (X : FVec Ideal S2048x64 .f32) : IVec S512x2048 32 :=
  select (cmpf .oeq (blockScores C X)
      (broadcastTo S512x2048 (shapeCast S1x2048 (blockLeast C X) shapeCasts_S2048_S1x2048) broadcasts_S1x2048_S512x2048))
    (iota .tc S512x2048 32 [0] iota_S512x2048_d0_w32) (broadcast S512x2048 512#32)

/-- Center `k` offers itself to point `p` exactly where its score equals the score at the first center where it is least. -/
theorem blockOffers_apply (C : FVec Ideal S512x64 .f32) (X : FVec Ideal S2048x64 .f32) (p : Fin 2048) (a : Fin 512)
    (ha : IsFirstMin (fun k => blockScores C X (ix2 k p)) a) (k : Fin 512) :
    blockOffers C X (ix2 k p)
      = if blockScores C X (ix2 k p) = blockScores C X (ix2 a p) then BitVec.ofNat 32 k.val else BitVec.ofNat 32 512 := by
  unfold blockOffers
  rw [select_apply, cmpf_apply, iota_single_apply, broadcast_apply,
    broadcastTo_apply _ _ _ (ix2 (0 : Fin 1) p) (fun a => by match a with | ⟨0, _⟩ => rfl | ⟨1, _⟩ => rfl),
    shapeCast_apply _ _ _ (ix1 p) (by rw [Shape.rowMajor_val_one, Shape.rowMajor_val_two]; simp),
    blockLeast_apply C X p a ha]
  by_cases h : blockScores C X (ix2 k p) = blockScores C X (ix2 a p)
  · rw [if_pos h, h]; simp [Ideal.cmpf_def, Ideal.cmp, Scalar.select]
  · rw [if_neg h]; simp [Ideal.cmpf_def, Ideal.cmp, Scalar.select, h]

/-- What a block stores at point `p`: the number of the first center where the point's score is least. -/
theorem payload_apply (C : FVec Ideal S512x64 .f32) (X : FVec Ideal S2048x64 .f32) (p : Fin 2048) (a : Fin 512)
    (ha : IsFirstMin (fun k => blockScores C X (ix2 k p)) a) :
    Cert.KernelIdeal.Gen.k0_pay1 (F := Ideal) C X (ix2 (0 : Fin 1) p) = BitVec.ofNat 32 a.val := by
  have e : Cert.KernelIdeal.Gen.k0_pay1 (F := Ideal) C X
      = shapeCast S1x2048 (multiReductionI .minsi [0] S2048 (blockOffers C X) 2147483647#32 reduces_S512x2048_S2048 rfl)
          shapeCasts_S2048_S1x2048 := rfl
  rw [e, shapeCast_apply _ _ _ (ix1 p) (by rw [Shape.rowMajor_val_one, Shape.rowMajor_val_two]; simp)]
  refine (multiReductionI_eq_fold _ _ _ _ _ _).trans ?_
  rw [Shape.Reduces.fold_filter_drop_single]
  exact ha.fold_minsi (by decide) _ (by decide) (by decide) _ fun k => by
    refine Eq.trans ?_ (blockOffers_apply C X p a ha k)
    refine congrArg (blockOffers C X) (funext fun a => ?_)
    match a with | ⟨0, _⟩ => rfl | ⟨1, _⟩ => rfl

/-- Where the centers and the block's points are real numbers, the block stores at point `p` the number of the first
    center whose score for the point is least. -/
theorem payload_coe (C : FVec Ideal S512x64 .f32) (X : FVec Ideal S2048x64 .f32) (c : Fin 512 → Fin 64 → ℝ)
    (x : Fin 2048 → Fin 64 → ℝ) (hC : ∀ k d, C (ix2 k d) = (c k d : EReal)) (hX : ∀ p d, X (ix2 p d) = (x p d : EReal))
    (p : Fin 2048) (a : Fin 512) (ha : IsFirstMin (fun k => (score (x p) (c k) : EReal)) a) :
    Cert.KernelIdeal.Gen.k0_pay1 (F := Ideal) C X (ix2 (0 : Fin 1) p) = BitVec.ofNat 32 a.val :=
  payload_apply C X p a (by simpa only [blockScores_coe C X c x hC hX] using ha)

end Cert.Proof

end
-- ==== Proof.Assigned.lean ====
/-
  What the kernel's array holds after its run: at each point, the number of the first center whose score for the point is
  least.
-/
module

public import proofs.«01_k».proof.Proof.Answer
public import proofs.«01_k».proof.Proof.Block
public import proofs.«01_k».proof.Proof.Gen.KernelIdeal.Frame
public import Idealize.ShloMosaic.Lib.Pipeline.ValueKit

@[expose] public section

noncomputable section

namespace Cert.Proof

open Idealize.ShloMosaic hiding ix1 ix2 ix3
open Idealize.ShloMosaic.ValueIdx Idealize.ShloMosaic.TcCoe Idealize.SL.Sem
open Cert.KernelIdeal Cert.KernelIdeal.Gen

variable (m : (ℓ : Loc nD τ sig) → Buf (Elt Ideal) ℓ)

/-- Device `c`'s points. -/
abbrev points (c : Dev nD) : FVec Ideal S4096x64 .f32 := m ((c : Thread nD τ).loc main_arg0)
/-- Device `c`'s centers. -/
abbrev centers (c : Dev nD) : FVec Ideal S512x64 .f32 := m ((c : Thread nD τ).loc main_arg1)

/-- The number of the first center whose score is least, for each of device `c`'s points, as one row. -/
def assigned (c : Dev nD) : IVec S1x4096 32 := fun i =>
  BitVec.ofNat 32 (nearest (realRows (points m c) (i 1)) (realRows (centers m c))).val

/-! ## The blocks a grid point reads and writes -/

/-- Every grid point reads the centers from the array's start. -/
theorem centers_index : ∀ (t : Fin cfg0.N) (a : Fin 2), win0_0.index t a = 0 := by decide +kernel
/-- Grid point `t` reads the `t`-th block of points. -/
theorem points_index_row : ∀ t : Fin cfg0.N, win0_1.index t 0 = t.val := by decide +kernel
/-- A block of points holds all their coordinates. -/
theorem points_index_col : ∀ t : Fin cfg0.N, win0_1.index t 1 = 0 := by decide +kernel
/-- Grid point `t` writes the `t`-th block of answers. -/
theorem answers_index_col : ∀ t : Fin cfg0.N, win0_2.index t 1 = t.val := by decide +kernel

/-- The block of centers at a grid point is the array of centers. -/
theorem centers_block (c : Dev nD) (t : Fin cfg0.N) (k : Fin 512) (d : Fin 64) :
    iblk m c 0 t (ix2 k d) = centers m c (ix2 k d) := by
  show centers m c (((cfg0.win 0).blk t).view.emb (ix2 k d)) = _
  refine congrArg (centers m c) (funext fun a => Fin.ext ?_)
  blk_simp
  rw [centers_index t a, Nat.zero_mul, Nat.zero_add]

/-- Point `p` of the block at grid point `t` is point `2048 t + p` of the array. -/
theorem points_block (c : Dev nD) (t : Fin cfg0.N) (p : Fin 2048) (d : Fin 64) (q : Fin 4096)
    (hq : q.val = t.val * 2048 + p.val) : iblk m c 1 t (ix2 p d) = points m c (ix2 q d) := by
  show points m c (((cfg0.win 1).blk t).view.emb (ix2 p d)) = _
  refine congrArg (points m c) (funext fun a => Fin.ext ?_)
  match a with
  | ⟨0, _⟩ => blk_simp; rw [points_index_row t]; exact hq.symm
  | ⟨1, _⟩ => blk_simp; rw [points_index_col t, Nat.zero_mul, Nat.zero_add]

/-! ## The array -/

/-- Where the points and the centers are real numbers, the kernel's array ends holding `assigned`. -/
theorem final_eq (c : Dev nD) (hX : ∀ i, points m c i = ((points m c i).toReal : EReal))
    (hC : ∀ i, centers m c i = ((centers m c i).toReal : EReal)) :
    (dats m 0 c).arrAt 2 cfg0.N = assigned m c := by
  refine (dats m 0 c).arrAt_eq_of_covers 2 _ (by decide +kernel) fun t hf y => ?_
  blk_simp
  rw [after0_2]
  frame_out
  have hq : ((((View.whole main_v0).slice (win0_2.rect t)).emb y 1 : Fin 4096) : ℕ) = t.val * 2048 + (y 1).val := by
    blk_simp
    rw [answers_index_col t]
  generalize hi : ((View.whole main_v0).slice (win0_2.rect t)).emb y = i at hq
  have hy : y = ix2 (0 : Fin 1) (y 1) := by
    funext a
    match a with
    | ⟨0, _⟩ => exact Subsingleton.elim (α := Fin 1) _ _
    | ⟨1, _⟩ => rfl
  have ht : t.val < 2 := t.isLt
  let x : Fin 2048 → Fin 64 → ℝ := fun p => realRows (points m c) ⟨t.val * 2048 + p.val, by have := p.isLt; omega⟩
  have hx : realRows (points m c) (i 1) = x (y 1) := congrArg (realRows (points m c)) (Fin.ext hq)
  unfold assigned
  rw [hy, hx]
  exact payload_coe (iblk m c 0 t) (iblk m c 1 t) (realRows (centers m c)) x
    (fun k d => (centers_block m c t k d).trans (hC _)) (fun p d => (points_block m c t p d _ rfl).trans (hX _)) (y 1) _
    (nearest_spec _ _)

/-- Where the points and the centers are real numbers, the kernel's result, its array read as a list of 4096, ends holding
    `assigned`. -/
theorem result_eq (c : Dev nD) (hX : ∀ i, points m c i = ((points m c i).toReal : EReal))
    (hC : ∀ i, centers m c i = ((centers m c i).toReal : EReal)) :
    Pipeline.afterTail₀ cfgs (dats m) 0 (V0 m) [hostOps1] c main_v1
      = shapeCast S4096 (assigned m c) Facts₀.shapeCasts_S1x4096_S4096 := by
  unfold Pipeline.afterTail₀
  simp only [List.flatten_cons, List.flatten_nil, List.append_nil, StableHlo.after_cons, StableHlo.after_nil]
  rw [StableHlo.reshape_result]
  exact congrArg (fun A => shapeCast S4096 A Facts₀.shapeCasts_S1x4096_S4096)
    ((Pipeline.withArrays_arr spec0 (by decide) c _ _ 2).trans (final_eq m c hX hC))

end Cert.Proof

end
-- ==== Proof.Nearest.lean ====
/-
  What the reference computes: for each point, the number of the first center whose squared distance to it is least.
-/
module

public import proofs.«01_k».proof.Proof.Constants
public import proofs.«01_k».proof.Proof.FirstMin
public import proofs.«01_k».proof.Proof.Distance
public import proofs.«01_k».proof.ReferenceIdeal
public import Idealize.ShloMosaic.Lib.IdealHost
public import Idealize.ShloMosaic.Lib.Pipeline.Value
public import Idealize.ShloMosaic.Lib.ValueIdx
public import Idealize.ShloMosaic.Lib.StableHlo.Predicate
public import Idealize.ShloMosaic.PureOps.Ideal.Laws

@[expose] public section

noncomputable section

namespace Cert.Proof

open Idealize.ShloMosaic Idealize.ShloMosaic.ValueIdx Cert.ReferenceIdeal Cert.ReferenceIdeal.Facts₀
open scoped BigOperators

/-! ## The search -/

/-- One step of the reference's search keeps the first of its two pairs when its value is smaller, or equal with a smaller
    position, and the second otherwise. -/
theorem reducer_eq (p q : EReal × BitVec 32) :
    reducer_argmin_f32_i32 (F := Ideal) p q = if p.1 < q.1 ∨ (p.1 = q.1 ∧ p.2.slt q.2 = true) then p else q := by
  obtain ⟨x, i⟩ := p
  obtain ⟨y, j⟩ := q
  by_cases h1 : x < y
  · simp [reducer_argmin_f32_i32, Ideal.cmpf_def, Ideal.cmp, Scalar.select, h1, h1.ne, Scalar.cmpf, IntOp.cmpi, IntOp.ori, IntOp.andi]
  · by_cases h2 : x = y <;> by_cases h3 : i.slt j = true <;>
      simp [reducer_argmin_f32_i32, Ideal.cmpf_def, Ideal.cmp, Scalar.select, h1, h2, h3, Scalar.cmpf, IntOp.cmpi, IntOp.ori,
        IntOp.andi]

/-- The search over a list of pairs (value at a position, that position), the first position of the least value among
    them, ends at that position, when the search starts from a value above the least. -/
theorem search_eq {n : ℕ} (hn : n < 2 ^ 31) {f : Fin n → EReal} {a : Fin n} (ha : IsFirstMin f a)
    (L : List (EReal × BitVec 32)) (hL : ∀ q ∈ L, ∃ k : Fin n, q = (f k, BitVec.ofNat 32 k.val))
    (hm : (f a, BitVec.ofNat 32 a.val) ∈ L) (s : EReal × BitVec 32) (hs : f a < s.1) :
    (L.foldl (reducer_argmin_f32_i32 (F := Ideal)) s).2 = BitVec.ofNat 32 a.val := by
  have hlt : ∀ k l : Fin n, (BitVec.ofNat 32 k.val).slt (BitVec.ofNat 32 l.val) = true ↔ k < l := fun k l =>
    (StableHlo.Predicate.ofBool_eq_one_iff _).symm.trans
      (StableHlo.Predicate.slt_ofNat_iff k.val l.val (by omega) (by omega))
  refine congrArg Prod.snd (foldl_keep (reducer_argmin_f32_i32 (F := Ideal)) (fun p q => ?_)
    (f a, BitVec.ofNat 32 a.val) L s ?_ ?_ ?_ (.inl hm))
  · rw [reducer_eq]; split <;> simp
  · intro q hq
    obtain ⟨k, rfl⟩ := hL q hq
    rw [reducer_eq]
    split
    · rfl
    · rename_i h
      simp only [hlt, not_or, not_and] at h
      rcases ha k with l | ⟨e, l⟩
      · exact absurd l h.1
      · obtain rfl : a = k := le_antisymm l (not_lt.1 (h.2 e))
        rfl
  · intro q hq
    obtain ⟨k, rfl⟩ := hL q hq
    rw [reducer_eq]
    split
    · rename_i h
      simp only [hlt] at h
      rcases ha k with l | ⟨e, l⟩
      · exact (h.elim (fun h => lt_asymm h l) fun h => l.ne h.1.symm).elim
      · exact (h.elim (fun h => h.ne e.symm) fun h => absurd h.2 (not_lt.2 l)).elim
    · rfl
  · rw [reducer_eq, if_neg]
    rintro (h | h)
    exacts [lt_asymm h hs, hs.ne h.1.symm]

/-- What a search along the second axis of two `n` by `m` arrays goes through at `p`: the pairs of their elements in row
    `p`. -/
theorem mem_fiber {α β : Type} {n m : ℕ} (f : (⟨2, ![n, m]⟩ : Shape).Idx → α) (g : (⟨2, ![n, m]⟩ : Shape).Idx → β)
    (h' : (⟨2, ![n, m]⟩ : Shape).ReducesTo [1] ⟨1, ![n]⟩) (h : (⟨2, ![n, m]⟩ : Shape).Reduces [1] ⟨1, ![n]⟩) (p : Fin n)
    (q : α × β) :
    q ∈ Host.argReduceFiber f g h' (ix1 p) ↔ ∃ k : Fin m, q = (f (ix2 p k), g (ix2 p k)) := by
  have hl : ∀ k : Fin m, h.lift (ix1 p) k = ix2 p k := fun k => by
    funext b; match b with | ⟨0, _⟩ => rfl | ⟨1, _⟩ => rfl
  simp only [Host.argReduceFiber, List.mem_map, List.mem_filter, List.mem_finRange, true_and, decide_eq_true_eq,
    Shape.ReducesTo.drop_eq_drop _ h]
  constructor
  · rintro ⟨r, hr, rfl⟩
    obtain ⟨k, hk⟩ : ∃ k : Fin m, (⟨2, ![n, m]⟩ : Shape).rowMajor.symm r = ix2 p k :=
      ⟨((⟨2, ![n, m]⟩ : Shape).rowMajor.symm r) 1, ((h.lift_drop _).symm.trans (by rw [hr])).trans (hl _)⟩
    exact ⟨k, by rw [hk]⟩
  · rintro ⟨k, rfl⟩
    refine ⟨(⟨2, ![n, m]⟩ : Shape).rowMajor (ix2 p k), ?_, ?_⟩
    · rw [Equiv.symm_apply_apply, ← hl]; exact h.drop_lift _ _
    · rw [Equiv.symm_apply_apply]

/-- A search over the extended reals, along any axes, is the fold of its step over what it goes through. -/
theorem argReduce_fold {s t u : Shape} {axes : List (Fin s.rank)}
    (step : Ideal .f32 × BitVec 32 → Ideal .f32 × BitVec 32 → Ideal .f32 × BitVec 32) (f : FVec Ideal s .f32)
    (g : s.Idx → BitVec 32) (f₀ : u.Idx → Ideal .f32) (g₀ : u.Idx → BitVec 32) (h : s.ReducesTo axes t) (hu : 0 < u.numel)
    (j : t.Idx) :
    Host.argReduce step f g f₀ g₀ h hu j
      = (Host.argReduceFiber f g h j).foldl step (f₀ (Shape.Idx.first hu), g₀ (Shape.Idx.first hu)) :=
  (congrFun (Ideal.argReduce_eq_reduce2 step f g f₀ g₀ h hu) j).trans (Host.reduce2_eq_foldl_fiber step f g f₀ g₀ h hu j)

/-! ## The squared distances, and the answer -/

variable [Facts₀]

/-- The reference's differences, point by center by coordinate. -/
def refDiff (X : FVec Ideal S4096x64 .f32) (C : FVec Ideal S512x64 .f32) : FVec Ideal S4096x512x64 .f32 :=
  subf (broadcastInDim S4096x512x64 ![0, 1, 2] bcast_S4096x1x64_S4096x512x64_0_1_2
      (broadcastInDim S4096x1x64 ![0, 2] bcast_S4096x64_S4096x1x64_0_2 X))
    (broadcastInDim S4096x512x64 ![0, 1, 2] bcast_S1x512x64_S4096x512x64_0_1_2
      (broadcastInDim S1x512x64 ![1, 2] bcast_S512x64_S1x512x64_1_2 C))

/-- The difference of point `p` and center `k` at coordinate `d`. -/
theorem refDiff_apply (X : FVec Ideal S4096x64 .f32) (C : FVec Ideal S512x64 .f32) (p : Fin 4096) (k : Fin 512) (d : Fin 64) :
    refDiff X C (ix3 p k d) = X (ix2 p d) - C (ix2 k d) := by
  unfold refDiff
  rw [subf_apply,
    broadcastInDim_apply _ _ _ _ (ix3 p (0 : Fin 1) d) (fun a => by match a with | ⟨0, _⟩ => rfl | ⟨1, _⟩ => rfl | ⟨2, _⟩ => rfl),
    broadcastInDim_apply _ _ _ _ (ix2 p d) (fun a => by match a with | ⟨0, _⟩ => rfl | ⟨1, _⟩ => rfl),
    broadcastInDim_apply _ _ _ _ (ix3 (0 : Fin 1) k d) (fun a => by match a with | ⟨0, _⟩ => rfl | ⟨1, _⟩ => rfl | ⟨2, _⟩ => rfl),
    broadcastInDim_apply _ _ _ _ (ix2 k d) (fun a => by match a with | ⟨0, _⟩ => rfl | ⟨1, _⟩ => rfl)]

/-- The reference's squared distances, point by center. -/
def refDist (X : FVec Ideal S4096x64 .f32) (C : FVec Ideal S512x64 .f32) : FVec Ideal S4096x512 .f32 :=
  Host.reduceAdd (mulf (refDiff X C) (refDiff X C)) (constant S_ .f32 0x00000000#32) reducesTo_S4096x512x64_S4096x512_d2 h_S_

/-- The squared distance of point `p` and center `k`: the sum over the coordinates of the squared differences. -/
theorem refDist_apply (X : FVec Ideal S4096x64 .f32) (C : FVec Ideal S512x64 .f32) (p : Fin 4096) (k : Fin 512) :
    refDist X C (ix2 p k) = ∑ d : Fin 64, (X (ix2 p d) - C (ix2 k d)) * (X (ix2 p d) - C (ix2 k d)) := by
  have h : S4096x512x64.Reduces [2] S4096x512 := by decide
  unfold refDist
  rw [hostReduceAdd_apply, Ideal.hostReduceAdd_single _ h, constant_apply, Ideal.ofBits_zero_f32, zero_add]
  refine Finset.sum_congr rfl fun d _ => ?_
  have e : h.lift (ix2 p k) d = ix3 p k (d : Fin 64) := by
    funext a; match a with | ⟨0, _⟩ => rfl | ⟨1, _⟩ => rfl | ⟨2, _⟩ => rfl
  refine (congrArg (mulf (refDiff X C) (refDiff X C)) e).trans ?_
  refine (mulf_apply _ _ _).trans ?_
  exact congrArg₂ (· * ·) (refDiff_apply X C p k d) (refDiff_apply X C p k d)

/-- The reference's answers. -/
def refNearest (X : FVec Ideal S4096x64 .f32) (C : FVec Ideal S512x64 .f32) : IVec S4096 32 := fun j =>
  (Host.argReduce reducer_argmin_f32_i32 (refDist X C) (iotaInDim S4096x512 32 1) (constant S_ .f32 0x7F800000#32)
    (constantI S_ 32 0#32) reducesTo_S4096x512_S4096_d1 h_S_ j).2

/-- The reference's answer for point `p` is the position its search over row `p` of the squared distances ends at. -/
theorem refNearest_eq_search (X : FVec Ideal S4096x64 .f32) (C : FVec Ideal S512x64 .f32) (p : Fin 4096) :
    refNearest X C (ix1 p)
      = ((Host.argReduceFiber (refDist X C) (iotaInDim S4096x512 32 1) reducesTo_S4096x512_S4096_d1 (ix1 p)).foldl
          (reducer_argmin_f32_i32 (F := Ideal)) (Ideal.ofBits .f32 0x7F800000#32, 0#32)).2 := by
  have e : refNearest X C = fun j =>
      (Host.argReduce reducer_argmin_f32_i32 (refDist X C) (iotaInDim S4096x512 32 1) (constant S_ .f32 0x7F800000#32)
        (constantI S_ 32 0#32) reducesTo_S4096x512_S4096_d1 h_S_ j).2 := rfl
  refine (congrFun e (ix1 p)).trans ?_
  exact congrArg Prod.snd (argReduce_fold _ _ _ _ _ _ _ _)

/-- The reference's answer for point `p` is the number of the first center whose squared distance to it is least, when
    that distance is below `⊤`. -/
theorem refNearest_apply (X : FVec Ideal S4096x64 .f32) (C : FVec Ideal S512x64 .f32) (p : Fin 4096) (a : Fin 512)
    (ha : IsFirstMin (fun k => refDist X C (ix2 p k)) a) (ht : refDist X C (ix2 p a) < ⊤) :
    refNearest X C (ix1 p) = BitVec.ofNat 32 a.val := by
  have h : S4096x512.Reduces [1] S4096 := by decide
  rw [refNearest_eq_search]
  have hmem := fun q => mem_fiber (refDist X C) (iotaInDim S4096x512 32 1) reducesTo_S4096x512_S4096_d1 h p q
  refine search_eq (by decide) ha _ (fun q hq => (hmem q).1 hq) ((hmem _).2 ⟨a, rfl⟩) _ ?_
  show refDist X C (ix2 p a) < Ideal.ofBits .f32 0x7F800000#32
  rwa [top_f32]

/-- Where the points and the centers are real numbers, the reference's answer for point `p` is the number of the first
    center whose score for it is least. -/
theorem refNearest_coe (X : FVec Ideal S4096x64 .f32) (C : FVec Ideal S512x64 .f32) (x : Fin 4096 → Fin 64 → ℝ)
    (c : Fin 512 → Fin 64 → ℝ) (hX : ∀ p d, X (ix2 p d) = (x p d : EReal)) (hC : ∀ k d, C (ix2 k d) = (c k d : EReal))
    (p : Fin 4096) (a : Fin 512) (ha : IsFirstMin (fun k => (score (x p) (c k) : EReal)) a) :
    refNearest X C (ix1 p) = BitVec.ofNat 32 a.val := by
  have e : ∀ k, refDist X C (ix2 p k) = ((∑ d, x p d * x p d + score (x p) (c k) : ℝ) : EReal) := fun k => by
    rw [refDist_apply, ← coe_distance]
    simp only [hX, hC]
  refine refNearest_apply X C p a ?_ (by rw [e]; exact EReal.coe_lt_top _)
  simpa only [e] using ha.shift _

end Cert.Proof

end
-- ==== Proof.Finite.lean ====
/-
  What the precondition says: every coordinate of every point and of every center is a real number.
-/
module

public import proofs.«01_k».proof.Proof.Constants
public import proofs.«01_k».proof.Pre_finite
public import Idealize.ShloMosaic.Lib.IdealHost
public import Idealize.ShloMosaic.Lib.ReduceAll
public import Idealize.ShloMosaic.Lib.Affine
public import Idealize.ShloMosaic.Lib.ValueIdx
public import Idealize.ShloMosaic.PureOps.Ideal.Laws

@[expose] public section

noncomputable section

namespace Cert.Proof

open Idealize.ShloMosaic Idealize.ShloMosaic.ValueIdx Cert.Pre_finite

/-- An extended real whose absolute value compares below `⊤` is a real number. -/
theorem coe_toReal_of_abs_lt (v : EReal)
    (h : FloatOps.cmpf (F := Ideal) (φ := .f32) .olt (FloatOps.hostAbsf v) (FloatOps.ofBits .f32 0x7F800000#32) = 1#1) :
    v = (v.toReal : EReal) := by
  have e : (FloatOps.ofBits .f32 0x7F800000#32 : Ideal .f32) = (⊤ : EReal) := top_f32
  rw [e] at h
  have hl : max v (-v) < (⊤ : EReal) := by
    by_contra hn
    have : FloatOps.cmpf (F := Ideal) (φ := .f32) .olt (FloatOps.hostAbsf v) (⊤ : EReal) = BitVec.ofBool (decide (max v (-v) < (⊤ : EReal))) := rfl
    rw [this, decide_eq_false hn] at h
    exact absurd h (by decide)
  rw [max_lt_iff] at hl
  refine (EReal.coe_toReal hl.1.ne fun hb => ?_).symm
  rw [hb, EReal.neg_bot] at hl
  exact lt_irrefl _ hl.2

variable [Facts]

/-- Under the precondition every element of both arrays is a real number. -/
theorem real_of_finite (X : FVec Ideal S4096x64 .f32) (C : FVec Ideal S512x64 .f32)
    (h : Cert.Pre_finite.fn (F := Ideal) X C = fun _ => 1#1) :
    (∀ i, X i = ((X i).toReal : EReal)) ∧ ∀ i, C i = ((C i).toReal : EReal) := by
  obtain ⟨hX, hC⟩ := IntOp.andi_eq_one.1 (congrFun h ix0)
  haveI : Subsingleton S_.Idx := ⟨fun a b => funext fun d => d.elim0⟩
  exact ⟨fun i => coe_toReal_of_abs_lt _ (Host.reduce_andi_all _ _ _ _ _ hX i),
    fun i => coe_toReal_of_abs_lt _ (Host.reduce_andi_all _ _ _ _ _ hC i)⟩

end Cert.Proof

end
-- ==== Proof.Equation.lean ====
/-
  The equation: where the points and the centers are real numbers, the kernel's answers are the reference's.
-/
module

public import proofs.«01_k».proof.Proof.Assigned
public import proofs.«01_k».proof.Proof.Nearest
public import proofs.«01_k».proof.Proof.Finite

@[expose] public section

noncomputable section

namespace Cert.Proof

open Idealize.ShloMosaic hiding ix1 ix2 ix3
open Idealize.ShloMosaic.ValueIdx Cert.KernelIdeal

variable [Cert.ReferenceIdeal.Facts₀]

/-- The kernel's row of answers, read as a list of 4096, is the reference's answers. -/
theorem assigned_eq_refNearest (m : (ℓ : Loc nD τ sig) → Buf (Elt Ideal) ℓ) (c : Dev nD)
    (hX : ∀ i, points m c i = ((points m c i).toReal : EReal)) (hC : ∀ i, centers m c i = ((centers m c i).toReal : EReal))
    (h : S1x4096.ShapeCasts S4096) : shapeCast S4096 (assigned m c) h = refNearest (points m c) (centers m c) := by
  funext j
  obtain ⟨p, rfl⟩ : ∃ p : Fin 4096, j = ix1 p := ⟨j 0, ValueIdx.eq_ix1 j⟩
  rw [refNearest_coe (points m c) (centers m c) (realRows (points m c)) (realRows (centers m c)) (fun p d => hX _)
      (fun k d => hC _) p _ (nearest_spec _ _),
    shapeCast_apply _ _ _ (ix2 (0 : Fin 1) p) (by rw [Shape.rowMajor_val_one, Shape.rowMajor_val_two]; simp)]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equation
public import Idealize.ShloMosaic.Lib.Claim
public import Idealize.ShloMosaic.Lib.Quiescent
public import Idealize.ShloMosaic.Lib.StableHlo.RunHlo
public import Idealize.ShloMosaic.Adequacy
public import Idealize.ShloMosaic.Init

@[expose] public section

noncomputable section

namespace Cert.Proof

open Idealize.ShloMosaic Idealize.SL.Sem Idealize.ShloMosaic.TcCoe

/-- From any memory the reference runs, its arguments end unchanged and every semaphore counter ends at zero. -/
theorem reference_frame : Cert.quiescent_ReferenceIdeal (hReferenceIdeal := Cert.ReferenceIdeal.Gen.facts) := by
  letI := Cert.ReferenceIdeal.Gen.facts
  intro m g _
  hlo_run
  · exact fun _ => ⟨trivial, trivial⟩
  · exact sem_eq_zero_of_no_sems (sig := Cert.ReferenceIdeal.sig) rfl _

/-- From memories that agree on the arguments, all of them real numbers, the kernel and the reference end with the same
    answers. -/
theorem same_answers : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  letI := Cert.KernelIdeal.Gen.facts
  letI := Cert.ReferenceIdeal.Gen.facts
  letI := Cert.Pre_finite.Gen.facts
  intro m g m' g' hpre hagree
  refine ⟨fun c => refNearest (points m c) (centers m c), ?_, ?_⟩
  · run_from Cert.KernelIdeal.Gen.run_main m g
    obtain ⟨hX, hC⟩ := real_of_finite (points m c) (centers m c) (hpre c)
    exact (result_eq m c hX hC).trans (assigned_eq_refNearest m c hX hC _)
  · hlo_run
    simp only [StableHlo.TRef.ofBuf_toBuf]
    rfl

/-- Everything this certificate claims. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, reference_frame, fun m g _ => reference_frame m g trivial, trivial,
    same_answers⟩

end Cert.Proof

end
